-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S7x32 : Shape := ⟨2, ![7, 32]⟩
abbrev S24x32 : Shape := ⟨2, ![24, 32]⟩
abbrev S60x32 : Shape := ⟨2, ![60, 32]⟩
abbrev S3x32 : Shape := ⟨2, ![3, 32]⟩
abbrev S32 : Shape := ⟨1, ![32]⟩
abbrev S128 : Shape := ⟨1, ![128]⟩
abbrev S_ : Shape := ⟨0, ![]⟩
abbrev S96x128 : Shape := ⟨2, ![96, 128]⟩
abbrev S1 : Shape := ⟨1, ![1]⟩
abbrev S2 : Shape := ⟨1, ![2]⟩
abbrev S1x128 : Shape := ⟨2, ![1, 128]⟩
abbrev S4096x200x128 : Shape := ⟨3, ![4096, 200, 128]⟩
abbrev S128x200x128 : Shape := ⟨3, ![128, 200, 128]⟩
abbrev S200x128 : Shape := ⟨2, ![200, 128]⟩
abbrev S200x96 : Shape := ⟨2, ![200, 96]⟩
abbrev S200 : Shape := ⟨1, ![200]⟩
abbrev S200x1 : Shape := ⟨2, ![200, 1]⟩
abbrev S1x200x128 : Shape := ⟨3, ![1, 200, 128]⟩

abbrev nBuf : Space → Nat
  | .hbm => 43
  | .vmem => 6
  | .smem => 0
  | _ => 0

abbrev bufTy : (tb : Table) → Fin (tcTables nBuf tb) → BufTy
  | .hbm, ⟨0, _⟩ => ⟨S4096x200, .i32⟩
  | .hbm, ⟨1, _⟩ => ⟨S7x32, .f32⟩
  | .hbm, ⟨2, _⟩ => ⟨S24x32, .f32⟩
  | .hbm, ⟨3, _⟩ => ⟨S60x32, .f32⟩
  | .hbm, ⟨4, _⟩ => ⟨S3x32, .f32⟩
  | .hbm, ⟨5, _⟩ => ⟨S32, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S96x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S96x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S96x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S96x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S96x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S96x128, .f32⟩
  | .hbm, ⟨40, _⟩ => ⟨S1x128, .f32⟩
  | .hbm, ⟨41, _⟩ => ⟨S1x128, .f32⟩
  | .hbm, ⟨42, _⟩ => ⟨S4096x200x128, .f32⟩
  | .local _ .vmem, ⟨0, _⟩ => ⟨S96x128, .f32⟩
  | .local _ .vmem, ⟨1, _⟩ => ⟨S1x128, .f32⟩
  | .local _ .vmem, ⟨2, _⟩ => ⟨S1x128, .f32⟩
  | .local _ .vmem, ⟨3, _⟩ => ⟨S128x200x128, .f32⟩
  | .local _ .vmem, ⟨4, _⟩ => ⟨S128x200x128, .f32⟩
  | .local _ .vmem, ⟨5, _⟩ => ⟨S200x128, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_7 : Ref sig .tc := ⟨.hbm, 34, rfl⟩
abbrev main_v17 : Ref sig .tc := ⟨.hbm, 35, rfl⟩
abbrev main_c_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x200 : Shape := ⟨2, ![4096, 200]⟩
abbrev S7x32 : Shape := ⟨2, ![7, 32]⟩
abbrev S24x32 : Shape := ⟨2, ![24, 32]⟩
abbrev S60x32 : Shape := ⟨2, ![60, 32]⟩
abbrev S3x32 : Shape := ⟨2, ![3, 32]⟩
abbrev S32 : Shape := ⟨1, ![32]⟩
abbrev S128 : Shape := ⟨1, ![128]⟩
abbrev S3 : Shape := ⟨1, ![3]⟩
abbrev S200 : Shape := ⟨1, ![200]⟩
abbrev S1x200 : Shape := ⟨2, ![1, 200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x32 : Shape := ⟨3, ![4096, 200, 32]⟩
abbrev S4096 : Shape := ⟨1, ![4096]⟩
abbrev S1x1x3 : Shape := ⟨3, ![1, 1, 3]⟩
abbrev S4096x200x3 : Shape := ⟨3, ![4096, 200, 3]⟩
abbrev S1x1x32 : Shape := ⟨3, ![1, 1, 32]⟩
abbrev S4096x200x128 : Shape := ⟨3, ![4096, 200, 128]⟩
abbrev S1x1x128 : Shape := ⟨3, ![1, 1, 128]⟩

abbrev nBuf : Space → Nat
  | .hbm => 208
  | .vmem => 0
  | .smem => 0
  | _ => 0

abbrev hbmTy0_0 (i : Nat) : BufTy := match i % 128 with
  | 0 => ⟨S4096x200, .i32⟩
  | 1 => ⟨S7x32, .f32⟩
  | 2 => ⟨S24x32, .f32⟩
  | 3 => ⟨S60x32, .f32⟩
  | 4 => ⟨S3x32, .f32⟩
  | 5 => ⟨S32, .f32⟩
  | 6 => ⟨S128, .f32⟩
  | 7 => ⟨S128, .f32⟩
  | 8 => ⟨S3, .f32⟩
  | 9 => ⟨S200, .i32⟩
  | 10 => ⟨S1x200, .i32⟩
  | 11 => ⟨S4096x200, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4096x200, .i32⟩
  | 19 => ⟨S4096x200, .i32⟩
  | 20 => ⟨S_, .i32⟩
  | 21 => ⟨S4096x200, .i32⟩
  | 22 => ⟨S4096x200, .i1⟩
  | 23 => ⟨S_, .i32⟩
  | 24 => ⟨S4096x200, .i32⟩
  | 25 => ⟨S4096x200, .i1⟩
  | 26 => ⟨S_, .i32⟩
  | 27 => ⟨S_, .i1⟩
  | 28 => ⟨S4096x200, .i1⟩
  | 29 => ⟨S4096x200, .i1⟩
  | 30 => ⟨S4096x200, .i1⟩
  | 31 => ⟨S4096x200, .i32⟩
  | 32 => ⟨S4096x200, .i32⟩
  | 33 => ⟨S4096x200, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S4096x200, .i32⟩
  | 41 => ⟨S4096x200, .i32⟩
  | 42 => ⟨S_, .i32⟩
  | 43 => ⟨S4096x200, .i32⟩
  | 44 => ⟨S4096x200, .i1⟩
  | 45 => ⟨S_, .i32⟩
  | 46 => ⟨S4096x200, .i32⟩
  | 47 => ⟨S4096x200, .i1⟩
  | 48 => ⟨S_, .i32⟩
  | 49 => ⟨S_, .i1⟩
  | 50 => ⟨S4096x200, .i1⟩
  | 51 => ⟨S4096x200, .i1⟩
  | 52 => ⟨S4096x200, .i1⟩
  | 53 => ⟨S4096x200, .i32⟩
  | 54 => ⟨S4096x200, .i32⟩
  | 55 => ⟨S4096x200, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S4096x200, .i32⟩
  | 63 => ⟨S4096x200, .i32⟩
  | 64 => ⟨S_, .i32⟩
  | 65 => ⟨S4096x200, .i32⟩
  | 66 => ⟨S4096x200, .i1⟩
  | 67 => ⟨S_, .i32⟩
  | 68 => ⟨S4096x200, .i32⟩
  | 69 => ⟨S4096x200, .i1⟩
  | 70 => ⟨S_, .i32⟩
  | 71 => ⟨S_, .i1⟩
  | 72 => ⟨S4096x200, .i1⟩
  | 73 => ⟨S4096x200, .i1⟩
  | 74 => ⟨S4096x200, .i1⟩
  | 75 => ⟨S4096x200, .i32⟩
  | 76 => ⟨S4096x200, .i32⟩
  | 77 => ⟨S4096x200, .i32⟩
  | 78 => ⟨S_, .i32⟩
  | 79 => ⟨S4096x200, .i32⟩
  | 80 => ⟨S4096x200, .i1⟩
  | 81 => ⟨S_, .i32⟩
  | 82 => ⟨S4096x200, .i32⟩
  | 83 => ⟨S4096x200, .i32⟩
  | 84 => ⟨S4096x200, .i32⟩
  | 85 => ⟨S4096x200x1, .i32⟩
  | 86 => ⟨S1, .i32⟩
  | 87 => ⟨S_, .i32⟩
  | 88 => ⟨S4096x200x1, .i32⟩
  | 89 => ⟨S4096x200x1, .i1⟩
  | 90 => ⟨S1x1x1, .i32⟩
  | 91 => ⟨S4096x200x1, .i32⟩
  | 92 => ⟨S4096x200x1, .i1⟩
  | 93 => ⟨S4096x200x1, .i1⟩
  | 94 => ⟨S_, .i1⟩
  | 95 => ⟨S4096x200, .i1⟩
  | 96 => ⟨S4096x200x32, .f32⟩
  | 97 => ⟨S4096x200x32, .i1⟩
  | 98 => ⟨S_, .f32⟩
  | 99 => ⟨S4096x200x32, .f32⟩
  | 100 => ⟨S4096x200x32, .f32⟩
  | 101 => ⟨S_, .i32⟩
  | 102 => ⟨S4096x200, .i32⟩
  | 103 => ⟨S4096x200, .i1⟩
  | 104 => ⟨S_, .i32⟩
  | 105 => ⟨S4096x200, .i32⟩
  | 106 => ⟨S4096x200, .i32⟩
  | 107 => ⟨S4096x200, .i32⟩
  | 108 => ⟨S4096x200x1, .i32⟩
  | 109 => ⟨S1, .i32⟩
  | 110 => ⟨S_, .i32⟩
  | 111 => ⟨S4096x200x1, .i32⟩
  | 112 => ⟨S4096x200x1, .i1⟩
  | 113 => ⟨S1x1x1, .i32⟩
  | 114 => ⟨S4096x200x1, .i32⟩
  | 115 => ⟨S4096x200x1, .i1⟩
  | 116 => ⟨S4096x200x1, .i1⟩
  | 117 => ⟨S_, .i1⟩
  | 118 => ⟨S4096x200, .i1⟩
  | 119 => ⟨S4096x200x32, .f32⟩
  | 120 => ⟨S4096x200x32, .i1⟩
  | 121 => ⟨S_, .f32⟩
  | 122 => ⟨S4096x200x32, .f32⟩
  | 123 => ⟨S4096x200x32, .f32⟩
  | 124 => ⟨S_, .i32⟩
  | 125 => ⟨S4096x200, .i32⟩
  | 126 => ⟨S4096x200, .i1⟩
  | 127 => ⟨S_, .i32⟩
  | _ => ⟨S4096x200, .i32⟩

abbrev hbmTy0_1 (i : Nat) : BufTy := match i % 128 with
  | 0 => ⟨S4096x200, .i32⟩
  | 1 => ⟨S4096x200, .i32⟩
  | 2 => ⟨S4096x200, .i32⟩
  | 3 => ⟨S4096x200x1, .i32⟩
  | 4 => ⟨S1, .i32⟩
  | 5 => ⟨S_, .i32⟩
  | 6 => ⟨S4096x200x1, .i32⟩
  | 7 => ⟨S4096x200x1, .i1⟩
  | 8 => ⟨S1x1x1, .i32⟩
  | 9 => ⟨S4096x200x1, .i32⟩
  | 10 => ⟨S4096x200x1, .i1⟩
  | 11 => ⟨S4096x200x1, .i1⟩
  | 12 => ⟨S_, .i1⟩
  | 13 => ⟨S4096x200, .i1⟩
  | 14 => ⟨S4096x200x32, .f32⟩
  | 15 => ⟨S4096x200x32, .i1⟩
  | 16 => ⟨S_, .f32⟩
  | 17 => ⟨S4096x200x32, .f32⟩
  | 18 => ⟨S4096x200x32, .f32⟩
  | 19 => ⟨S_, .f32⟩
  | 20 => ⟨S4096x200, .f32⟩
  | 21 => ⟨S_, .i32⟩
  | 22 => ⟨S1, .i32⟩
  | 23 => ⟨S_, .f32⟩
  | 24 => ⟨S4096, .f32⟩
  | 25 => ⟨S4096x200, .f32⟩
  | 26 => ⟨S4096x200x1, .f32⟩
  | 27 => ⟨S1x1x3, .f32⟩
  | 28 => ⟨S4096x200x3, .f32⟩
  | 29 => ⟨S4096x200x3, .f32⟩
  | 30 => ⟨S4096x200x3, .f32⟩
  | 31 => ⟨S4096x200x32, .f32⟩
  | 32 => ⟨S1x1x32, .f32⟩
  | 33 => ⟨S4096x200x32, .f32⟩
  | 34 => ⟨S4096x200x32, .f32⟩
  | 35 => ⟨S4096x200x128, .f32⟩
  | 36 => ⟨S_, .f32⟩
  | 37 => ⟨S4096x200, .f32⟩
  | 38 => ⟨S4096x200x1, .f32⟩
  | 39 => ⟨S_, .f32⟩
  | 40 => ⟨S4096x200x1, .f32⟩
  | 41 => ⟨S4096x200x1, .f32⟩
  | 42 => ⟨S_, .i32⟩
  | 43 => ⟨S_, .f32⟩
  | 44 => ⟨S4096x200, .f32⟩
  | 45 => ⟨S4096x200x1, .f32⟩
  | 46 => ⟨S_, .f32⟩
  | 47 => ⟨S4096x200x1, .f32⟩
  | 48 => ⟨S4096x200x1, .f32⟩
  | 49 => ⟨S4096x200x128, .f32⟩
  | 50 => ⟨S4096x200x128, .f32⟩
  | 51 => ⟨S4096x200x128, .f32⟩
  | 52 => ⟨S_, .f32⟩
  | 53 => ⟨S_, .f32⟩
  | 54 => ⟨S_, .f32⟩
  | 55 => ⟨S_, .f32⟩
  | 56 => ⟨S4096x200, .f32⟩
  | 57 => ⟨S4096x200x1, .f32⟩
  | 58 => ⟨S4096x200x1, .f32⟩
  | 59 => ⟨S4096x200x1, .f32⟩
  | 60 => ⟨S_, .f32⟩
  | 61 => ⟨S_, .i1⟩
  | 62 => ⟨S_, .f32⟩
  | 63 => ⟨S_, .f32⟩
  | 64 => ⟨S4096x200x1, .f32⟩
  | 65 => ⟨S4096x200x1, .f32⟩
  | 66 => ⟨S4096x200x128, .f32⟩
  | 67 => ⟨S4096x200x128, .f32⟩
  | 68 => ⟨S_, .f32⟩
  | 69 => ⟨S4096x200x1, .f32⟩
  | 70 => ⟨S4096x200x1, .f32⟩
  | 71 => ⟨S4096x200x1, .f32⟩
  | 72 => ⟨S4096x200x128, .f32⟩
  | 73 => ⟨S4096x200x128, .f32⟩
  | 74 => ⟨S1x1x128, .f32⟩
  | 75 => ⟨S4096x200x128, .f32⟩
  | 76 => ⟨S4096x200x128, .f32⟩
  | 77 => ⟨S1x1x128, .f32⟩
  | 78 => ⟨S4096x200x128, .f32⟩
  | 79 => ⟨S4096x200x128, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v4 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v5 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v6 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v7 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_c_1 : Ref sig .tc := ⟨.hbm, 132, rfl⟩
abbrev main_call5_c_2 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_3 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_call5_cst : Ref sig .tc := ⟨.hbm, 144, rfl⟩
abbrev main_call5_v15 : Ref sig .tc := ⟨.hbm, 145, rfl⟩
abbrev main_v8 : Ref sig .tc := ⟨.hbm, 146, rfl⟩
abbrev main_cst_2 : Ref sig .tc := ⟨.hbm, 147, rfl⟩
abbrev main_v9 : Ref sig .tc := ⟨.hbm, 148, rfl⟩
abbrev main_c_3 : Ref sig .tc := ⟨.hbm, 149, rfl⟩
abbrev main_v10 : Ref sig .tc := ⟨.hbm, 150, rfl⟩
abbrev main_cst_4 : Ref sig .tc := ⟨.hbm, 151, rfl⟩
abbrev main_v11 : Ref sig .tc := ⟨.hbm, 152, rfl⟩
abbrev main_v12 : Ref sig .tc := ⟨.hbm, 153, rfl⟩
abbrev main_v13 : Ref sig .tc := ⟨.hbm, 154, rfl⟩
abbrev main_v14 : Ref sig .tc := ⟨.hbm, 155, rfl⟩
abbrev main_v15 : Ref sig .tc := ⟨.hbm, 156, rfl⟩
abbrev main_v16 : Ref sig .tc := ⟨.hbm, 157, rfl⟩
abbrev main_v17 : Ref sig .tc := ⟨.hbm, 158, rfl⟩
abbrev main_v18 : Ref sig .tc := ⟨.hbm, 159, rfl⟩
abbrev main_v19 : Ref sig .tc := ⟨.hbm, 160, rfl⟩
abbrev main_v20 : Ref sig .tc := ⟨.hbm, 161, rfl⟩
abbrev main_v21 : Ref sig .tc := ⟨.hbm, 162, rfl⟩
abbrev main_v22 : Ref sig .tc := ⟨.hbm, 163, rfl⟩
abbrev main_cst_5 : Ref sig .tc := ⟨.hbm, 164, rfl⟩
abbrev main_v23 : Ref sig .tc := ⟨.hbm, 165, rfl⟩
abbrev main_v24 : Ref sig .tc := ⟨.hbm, 166, rfl⟩
abbrev main_cst_6 : Ref sig .tc := ⟨.hbm, 167, rfl⟩
abbrev main_v25 : Ref sig .tc := ⟨.hbm, 168, rfl⟩
abbrev main_v26 : Ref sig .tc := ⟨.hbm, 169, rfl⟩
abbrev main_c_7 : Ref sig .tc := ⟨.hbm, 170, rfl⟩
abbrev main_call6_cst : Ref sig .tc := ⟨.hbm, 171, rfl⟩
abbrev main_call6_v0 : Ref sig .tc := ⟨.hbm, 172, rfl⟩
abbrev main_call6_v1 : Ref sig .tc := ⟨.hbm, 173, rfl⟩
abbrev main_call6_cst_0 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_v7 : Ref sig .tc := ⟨.hbm, 180, rfl⟩
abbrev main_call6_cst_1 : Ref sig .tc := ⟨.hbm, 181, rfl⟩
abbrev main_call6_v8 : Ref sig .tc := ⟨.hbm, 182, rfl⟩
abbrev main_call6_cst_2 : Ref sig .tc := ⟨.hbm, 183, rfl⟩
abbrev main_call6_v9 : Ref sig .tc := ⟨.hbm, 184, rfl⟩
abbrev main_call6_v10 : Ref sig .tc := ⟨.hbm, 185, rfl⟩
abbrev main_call6_v11 : Ref sig .tc := ⟨.hbm, 186, rfl⟩
abbrev main_call6_v12 : Ref sig .tc := ⟨.hbm, 187, rfl⟩
abbrev main_call6_cst_3 : Ref sig .tc := ⟨.hbm, 188, rfl⟩
abbrev main_call6_v13 : Ref sig .tc := ⟨.hbm, 189, rfl⟩
abbrev main_call6_cst_4 : Ref sig .tc := ⟨.hbm, 190, rfl⟩
abbrev main_call6_call0_v0 : Ref sig .tc := ⟨.hbm, 191, rfl⟩
abbrev main_call6_call0_v1 : Ref sig .tc := ⟨.hbm, 192, rfl⟩
abbrev main_v27 : Ref sig .tc := ⟨.hbm, 193, rfl⟩
abbrev main_v28 : Ref sig .tc := ⟨.hbm, 194, rfl⟩
abbrev main_v29 : Ref sig .tc := ⟨.hbm, 195, rfl⟩
abbrev main_cst_8 : Ref sig .tc := ⟨.hbm, 196, rfl⟩
abbrev main_v30 : Ref sig .tc := ⟨.hbm, 197, rfl⟩
abbrev main_v31 : Ref sig .tc := ⟨.hbm, 198, rfl⟩
abbrev main_v32 : Ref sig .tc := ⟨.hbm, 199, rfl⟩
abbrev main_v33 : Ref sig .tc := ⟨.hbm, 200, rfl⟩
abbrev main_v34 : Ref sig .tc := ⟨.hbm, 201, rfl⟩
abbrev main_v35 : Ref sig .tc := ⟨.hbm, 202, rfl⟩
abbrev main_v36 : Ref sig .tc := ⟨.hbm, 203, rfl⟩
abbrev main_v37 : Ref sig .tc := ⟨.hbm, 204, rfl⟩
abbrev main_v38 : Ref sig .tc := ⟨.hbm, 205, rfl⟩
abbrev main_v39 : Ref sig .tc := ⟨.hbm, 206, rfl⟩
abbrev main_v40 : Ref sig .tc := ⟨.hbm, 207, rfl⟩

abbrev nD : Nat := 1
abbrev τ : Topo := Topo.v7x

variable {F : FTy → Type} [FloatOps F]
-- ==== Proof.Table.lean ====
/-
  What the kernel's body computes. At the first grid point it stores the table (`table`), a function of its three
  input blocks, into the scratch; at every point it broadcasts the scratch over the block's batch rows. So after
  every point the scratch is the table and the output block is its broadcast (`outsAt_eq`).
-/
module

public import proofs.«01_k».proof.Proof.Gen.KernelIdeal.Value
public import Idealize.ShloMosaic.Lib.Pipeline.Value

@[expose] public section

noncomputable section

namespace Cert.KernelIdeal.Table

open Cert.KernelIdeal Cert.KernelIdeal.Gen Idealize.ShloMosaic Idealize.ShloMosaic.TcCoe

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The row number of each entry of the selector matrix. -/
abbrev rowIx : IVec S200x96 32 := iota .tc S200x96 32 [0] iota_S200x96_d0_w32
/-- The column number of each entry of the selector matrix. -/
abbrev colIx : IVec S200x96 32 := iota .tc S200x96 32 [1] iota_S200x96_d1_w32

/-- The table the first point stores, of the packed weights `w`, the scale `g` and the shift `b`. -/
def table (w : Vec F S96x128 .f32) (g b : Vec F S1x128 .f32) : FVec F S200x128 .f32 :=
  k0_pay1 (k0_pay9 rowIx colIx (k0_pay5 rowIx colIx k0_pay3 k0_pay4 31#32) (k0_pay6 colIx) (k0_pay7 colIx) k0_pay8 w g) b

section Body

variable (c : Dev nD) (i : grid0.Coords) (a1 : Memref sig .tc .vmem S96x128 .f32) (h1 : a1.IsWhole)
  (a2 : Memref sig .tc .vmem S1x128 .f32) (h2 : a2.IsWhole) (a3 : Memref sig .tc .vmem S1x128 .f32) (h3 : a3.IsWhole)
  (a4 : Memref sig .tc .vmem S128x200x128 .f32) (h4 : a4.IsWhole) (a5 : Memref sig .tc .vmem S200x128 .f32) (h5 : a5.IsWhole)
  (x0 : Vec F S96x128 .f32) (x1 x2 : Vec F S1x128 .f32) (xs : Vec F S200x128 .f32)

/-- At the first point the scratch is left holding the table of the three input blocks. -/
theorem scratch_first (hc : cond0_0 i) :
    sout0_A_0 c i a1 h1 a2 h2 a3 h3 a4 h4 a5 h5 hc x0 x1 x2 = table x0 x1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero (S := S200x128) zero2]
  unfold table
  simp only [View.readAt_eq_ld, h1.read_unread, h2.read_unread, h3.read_unread, View.ld_unit_zero (S := S96x128) zero2,
    View.ld_unit_zero (S := S1x128) zero2]

/-- At the first point the output block is left holding the table's broadcast: the stored table is read back. -/
theorem block_first (hc : cond0_0 i) :
    out0_A_3 c i a1 h1 a2 h2 a3 h3 a4 h4 a5 h5 hc x0 x1 x2 = k0_pay2 (table x0 x1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S128x200x128) zero3, View.readCov_unit_zero (S := S200x128) _ zero2]
  unfold table
  simp only [View.readAt_eq_ld, h1.read_unread, h2.read_unread, h3.read_unread, View.ld_unit_zero (S := S96x128) zero2,
    View.ld_unit_zero (S := S1x128) zero2]

/-- At every later point the output block is left holding the broadcast of what the scratch held. -/
theorem block_later (hc : ¬cond0_0 i) :
    out0_B_3 c i a1 h1 a2 h2 a3 h3 a4 h4 a5 h5 hc x0 x1 x2 xs = k0_pay2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero (S := S128x200x128) zero3]
  simp only [View.readAt_eq_ld, h5.read_unread, View.ld_unit_zero (S := S200x128) zero2]

end Body

/-- The table of the arrays the region finds in its three inputs. -/
def tableAt (c : Dev nD) : FVec F S200x128 .f32 := table (V m c main_v20) (V m c main_v21) (V m c main_v22)

/-- Window 0's block is its whole array. -/
theorem block0 (c : Dev nD) (t : Fin cfg0.N) : iblk m c 0 t = V m c main_v20 := by
  have hz : (fun a => win0_0.index t a * main_v20.ty.shape.size a) = fun _ => 0 := funext fun a => by
    fin_cases a <;> exact Nat.zero_mul _
  exact Memref.read_access_unit_zero (Elt F) main_v20 hz (fun a => by rw [congrFun hz a]; simp) _

/-- Window 1's block is its whole array. -/
theorem block1 (c : Dev nD) (t : Fin cfg0.N) : iblk m c 1 t = V m c main_v21 := by
  have hz : (fun a => win0_1.index t a * main_v21.ty.shape.size a) = fun _ => 0 := funext fun a => by
    fin_cases a <;> exact Nat.zero_mul _
  exact Memref.read_access_unit_zero (Elt F) main_v21 hz (fun a => by rw [congrFun hz a]; simp) _

/-- Window 2's block is its whole array. -/
theorem block2 (c : Dev nD) (t : Fin cfg0.N) : iblk m c 2 t = V m c main_v22 := by
  have hz : (fun a => win0_2.index t a * main_v22.ty.shape.size a) = fun _ => 0 := funext fun a => by
    fin_cases a <;> exact Nat.zero_mul _
  exact Memref.read_access_unit_zero (Elt F) main_v22 hz (fun a => by rw [congrFun hz a]; simp) _

/-- After every point the output block is the table's broadcast and the scratch is the table. -/
theorem outsAt_eq (c : Dev nD) : ∀ (n : ℕ) (h : n < cfg0.N), outsAt0 m c n h = (k0_pay2 (tableAt m c), tableAt m c)
  | 0, h => by
    rw [outsAt0_A m c ⟨0, h⟩ rfl, block_first, scratch_first, block0, block1, block2]
    rfl
  | n + 1, h => by
    have hN : cfg0.N = 32 := N_0
    have hB : ¬(⟨n + 1, h⟩ : Fin cfg0.N).val % 32 = 0 := by dsimp only; omega
    rw [outsAt0_B m c ⟨n + 1, h⟩ hB, block_later]
    show (k0_pay2 (outsAt0 m c n _).2, (outsAt0 m c n _).2) = _
    rw [outsAt_eq c n]

end Cert.KernelIdeal.Table
-- ==== Proof.Norm.lean ====
/-
  Normalization of a row of 128 numbers, in the two ways it is written: the centred entry times the reciprocal square
  root of the variance plus a small constant, and the centred entry divided by the square root of the same. They are
  equal at every row of extended reals (`byRsqrt_eq`): the variance is a mean of squares, so it is not negative, and
  with the positive constant added it is positive.
-/
module

public import Idealize.ShloMosaic.Lib.Tactic.ValueTie
public import Idealize.ShloMosaic.Lib.IdealHost

@[expose] public section

noncomputable section

namespace Cert.Norm

open Idealize.ShloMosaic

/-- The mean of a row: its sum over 128. -/
def mean (x : Fin 128 → EReal) : EReal := Ideal.div (∑ l, x l) (Ideal.ofBits .f32 0x43000000#32)

/-- The variance of a row: the mean of the squares of its centred entries. -/
def variance (x : Fin 128 → EReal) : EReal := mean fun l => (x l - mean x) * (x l - mean x)

/-- The small constant under the root. -/
abbrev eps : EReal := Ideal.ofBits .f32 0x3727C5AC#32

/-- A normalized, scaled and shifted entry, by the reciprocal square root. -/
def byRsqrt (x : Fin 128 → EReal) (k : Fin 128) (g b : EReal) : EReal := (x k - mean x) * Ideal.rsqrt (variance x + eps) * g + b

/-- The same, by division by the square root. -/
def bySqrt (x : Fin 128 → EReal) (k : Fin 128) (g b : EReal) : EReal := Ideal.div (x k - mean x) (Ideal.sqrt (variance x + eps)) * g + b

/-- A product of an extended real with itself is not negative. -/
theorem mul_self_nonneg' (x : EReal) : 0 ≤ x * x := by
  induction x with
  | bot => simp
  | top => simp
  | coe r => exact_mod_cast mul_self_nonneg r

/-- The small constant is a positive number. -/
theorem eps_pos : (0 : EReal) < eps := by
  unfold eps
  simp [Ideal.ofBits, Ideal.ieee, -EReal.coe_mul]

/-- The divisor of the mean is the number 128. -/
theorem divisor : Ideal.ofBits .f32 0x43000000#32 = ((128 : ℝ) : EReal) := by
  simp [Ideal.ofBits, Ideal.ieee, -EReal.coe_mul]; norm_num

/-- A variance is not negative. -/
theorem variance_nonneg (x : Fin 128 → EReal) : 0 ≤ variance x := by
  unfold variance
  generalize mean x = a
  unfold mean
  rw [divisor, Ideal.div_coe (by norm_num)]
  exact EReal.mul_nonneg (Finset.sum_nonneg fun l _ => mul_self_nonneg' _) (by norm_cast; norm_num)

/-- At a positive number, multiplying by the reciprocal square root is dividing by the square root. -/
theorem mul_rsqrt (c v : EReal) (hv : 0 < v) : c * Ideal.rsqrt v = Ideal.div c (Ideal.sqrt v) := by
  induction v with
  | bot => exact absurd hv (by simp)
  | top => rw [Ideal.rsqrt_top, Ideal.sqrt_top]; simp [Ideal.div]
  | coe r =>
    have hr : 0 < r := by exact_mod_cast hv
    have hs : Real.sqrt r ≠ 0 := (Real.sqrt_pos.2 hr).ne'
    rw [Ideal.rsqrt_coe, Ideal.sqrt_coe, if_neg hr.not_gt, if_neg hr.ne', if_neg hr.not_gt, Ideal.div_coe hs, one_div]

/-- With the small constant added, a variance is positive. -/
theorem variance_add_pos (x : Fin 128 → EReal) : 0 < variance x + eps :=
  lt_of_lt_of_le eps_pos (le_add_of_nonneg_left (variance_nonneg x))

/-- The two ways of writing the normalization agree. -/
theorem byRsqrt_eq (x : Fin 128 → EReal) (k : Fin 128) (g b : EReal) : byRsqrt x k g b = bySqrt x k g b := by
  unfold byRsqrt bySqrt
  rw [mul_rsqrt _ _ (variance_add_pos x)]

end Cert.Norm
-- ==== Proof.Selector.lean ====
/-
  The selector matrix the kernel builds: row `p` has a 1 in the columns of `p`'s day, hour and minute, the interval
  constants in three further columns (0 in row 0), a 1 in the bias column and 0 elsewhere (`built_eq`). The table
  is the normalization of the rows of its product with the packed matrix (`table_apply`).
-/
module

public import proofs.«01_k».proof.Proof.Table
public import proofs.«01_k».proof.Proof.Norm
public import Idealize.ShloMosaic.Lib.Tactic.ValueTie

@[expose] public section

noncomputable section

namespace Cert.KernelIdeal.Selector

open Cert.KernelIdeal Cert.KernelIdeal.Gen Cert.KernelIdeal.Table Idealize.ShloMosaic Idealize.ShloMosaic.TcCoe

/-- A 0/1 word made a float is 1 where the bit is set and 0 elsewhere. -/
theorem sitofp_bit (b : BitVec 1) (q : Prop) [Decidable q] (h : b = if q then 1#1 else 0#1) :
    (FloatOps.sitofp .f32 (BitVec.setWidth 32 b) : Ideal .f32) = if q then (1 : EReal) else 0 := by
  subst h
  split
  · show (((BitVec.setWidth 32 1#1).toInt : ℝ) : EReal) = 1
    norm_num
  · show (((BitVec.setWidth 32 0#1).toInt : ℝ) : EReal) = 0
    norm_num

/-- The day, hour and minute part: 1 in the columns of the position's day, hour and minute, 0 elsewhere. -/
theorem hot_eq (p : Fin 200) (r : Fin 96) : (k0_pay5 rowIx colIx k0_pay3 k0_pay4 31#32 : FVec Ideal S200x96 .f32) (ix2 p r)
    = if (r.val < 7 ∧ r.val = p.val % 7) ∨ ((7 ≤ r.val ∧ r.val < 31) ∧ r.val - 7 = p.val % 24)
        ∨ ((31 ≤ r.val ∧ r.val < 91) ∧ r.val - 31 = p.val % 60) then (1 : EReal) else 0 := by
  unfold k0_pay5 k0_pay3 k0_pay4
  pointwise
  refine sitofp_bit _ _ ?_
  revert p r
  decide +kernel

/-- The interval constant of a column: one each in columns 91, 92 and 93, and 0 elsewhere. -/
def scaleOf (r : Fin 96) : EReal :=
  if r.val = 91 then Ideal.ofBits .f32 0x3D888889#32 else if r.val = 92 then Ideal.ofBits .f32 0x3C888889#32
  else if r.val = 93 then Ideal.ofBits .f32 0x3BDA740E#32 else 0

/-- The entry of the selector matrix at position `p` and column `r`. -/
def selector (p : Fin 200) (r : Fin 96) : EReal :=
  if r.val < 7 then (if r.val = p.val % 7 then 1 else 0)
  else if r.val < 31 then (if r.val = p.val % 24 + 7 then 1 else 0)
  else if r.val < 91 then (if r.val = p.val % 60 + 31 then 1 else 0)
  else if r.val < 94 then (if p.val = 0 then 0 else scaleOf r)
  else if r.val = 94 then 1 else 0

/-- The selector entry as the kernel computes it: the sum of its day, hour and minute part, its interval part and its bias part. -/
def built (p : Fin 200) (r : Fin 96) : EReal :=
  (k0_pay5 rowIx colIx k0_pay3 k0_pay4 31#32 : FVec Ideal S200x96 .f32) (ix2 p r)
    + Scalar.select (IntOp.cmpi .eq (BitVec.ofNat 32 p.val) 0#32) 0
        (Scalar.select (k0_pay6 colIx (ix2 p r)) ((k0_pay8 : FVec Ideal S200x96 .f32) (ix2 p r)) ((k0_pay7 colIx : FVec Ideal S200x96 .f32) (ix2 p r))
      * (FloatOps.sitofp .f32 (BitVec.setWidth 32 (IntOp.andi (IntOp.cmpi .sge (BitVec.ofNat 32 r.val) 91#32)
          (IntOp.cmpi .slt (BitVec.ofNat 32 r.val) 94#32))) : Ideal .f32))
    + (FloatOps.sitofp .f32 (BitVec.setWidth 32 (IntOp.cmpi .eq (BitVec.ofNat 32 r.val) 94#32)) : Ideal .f32)

/-- The kernel's table at position `p` and column `k`: the normalization of row `p` of the product of the selector and the packed matrix. -/
theorem table_apply (w : Vec Ideal S96x128 .f32) (g b : Vec Ideal S1x128 .f32) (p : Fin 200) (k : Fin 128) :
    table w g b (ix2 p k) = Norm.byRsqrt (fun l => ∑ r, built p r * w (ix2 r l)) k (g (ix2 0 k)) (b (ix2 0 k)) := by
  unfold table k0_pay1 k0_pay9
  pointwise
  rfl

/-- Choosing by a one-bit word that tells whether `q` holds is choosing by `q`. -/
theorem select_bit {α : Type} (b : BitVec 1) (q : Prop) [Decidable q] (h : b = if q then 1#1 else 0#1) (x y : α) :
    Scalar.select b x y = if q then x else y := by
  subst h
  by_cases hq : q <;> simp [hq, Scalar.select]

/-- The selector entry as the kernel computes it is `selector`. -/
theorem built_eq (p : Fin 200) (r : Fin 96) : built p r = selector p r := by
  have first : ∀ p : Fin 200, IntOp.cmpi .eq (BitVec.ofNat 32 p.val) 0#32 = if p.val = 0 then 1#1 else 0#1 := by decide +kernel
  have at91 : ∀ r : Fin 96, IntOp.cmpi .eq (BitVec.ofNat 32 r.val) 91#32 = if r.val = 91 then 1#1 else 0#1 := by decide +kernel
  have at92 : ∀ r : Fin 96, IntOp.cmpi .eq (BitVec.ofNat 32 r.val) 92#32 = if r.val = 92 then 1#1 else 0#1 := by decide +kernel
  have at93 : ∀ r : Fin 96, IntOp.cmpi .eq (BitVec.ofNat 32 r.val) 93#32 = if r.val = 93 then 1#1 else 0#1 := by decide +kernel
  have at94 : ∀ r : Fin 96, IntOp.cmpi .eq (BitVec.ofNat 32 r.val) 94#32 = if r.val = 94 then 1#1 else 0#1 := by decide +kernel
  have inside : ∀ r : Fin 96, IntOp.andi (IntOp.cmpi .sge (BitVec.ofNat 32 r.val) 91#32) (IntOp.cmpi .slt (BitVec.ofNat 32 r.val) 94#32)
      = if 91 ≤ r.val ∧ r.val < 94 then 1#1 else 0#1 := by decide +kernel
  unfold built
  rw [hot_eq]
  unfold k0_pay6 k0_pay7 k0_pay8
  pointwise
  rw [select_bit _ _ (first p), select_bit _ _ (at91 r), select_bit _ _ (at92 r), select_bit _ _ (at93 r),
    sitofp_bit _ _ (inside r), sitofp_bit _ _ (at94 r)]
  have hr := r.isLt
  unfold selector scaleOf
  by_cases h7 : r.val < 7
  · rw [if_pos h7, if_neg (show ¬(91 ≤ r.val ∧ r.val < 94) by omega), if_neg (show ¬ r.val = 94 by omega), mul_zero, ite_self,
      add_zero, add_zero]
    exact if_congr (by omega) rfl rfl
  · by_cases h31 : r.val < 31
    · rw [if_neg h7, if_pos h31, if_neg (show ¬(91 ≤ r.val ∧ r.val < 94) by omega), if_neg (show ¬ r.val = 94 by omega), mul_zero,
        ite_self, add_zero, add_zero]
      exact if_congr (by omega) rfl rfl
    · by_cases h91 : r.val < 91
      · rw [if_neg h7, if_neg h31, if_pos h91, if_neg (show ¬(91 ≤ r.val ∧ r.val < 94) by omega), if_neg (show ¬ r.val = 94 by omega),
          mul_zero, ite_self, add_zero, add_zero]
        exact if_congr (by omega) rfl rfl
      · rw [if_neg h7, if_neg h31, if_neg h91]
        rw [if_neg (show ¬(r.val < 7 ∧ r.val = p.val % 7 ∨ (7 ≤ r.val ∧ r.val < 31) ∧ r.val - 7 = p.val % 24
          ∨ (31 ≤ r.val ∧ r.val < 91) ∧ r.val - 31 = p.val % 60) by omega), zero_add]
        by_cases h94 : r.val < 94
        · rw [if_pos h94, if_pos (show 91 ≤ r.val ∧ r.val < 94 by omega), if_neg (show ¬ r.val = 94 by omega), mul_one, add_zero]
        · rw [if_neg h94, if_neg (show ¬(91 ≤ r.val ∧ r.val < 94) by omega), mul_zero, ite_self, zero_add]

end Cert.KernelIdeal.Selector
-- ==== Proof.Ops.lean ====
/-
  Host operations read at an index, at any extents: a scatter that sets a rectangle of a matrix, part of a row of a
  matrix or one column of a matrix, and a gather of whole rows of a matrix.
-/
module

public import Idealize.ShloMosaic.Lib.Routing.OpsOne
public import Idealize.ShloMosaic.Lib.ValueIdxCore

@[expose] public section

namespace Cert.Ops

open Idealize.ShloMosaic Idealize.ShloMosaic.ValueIdx Idealize.ShloMosaic.Routing

variable {α : Type}

section Block

/-- The dimension numbers of `x.at[i : i + A, j : j + B].set(u)` over an `[R, C]` matrix, the corner being a pair of index words. -/
abbrev blockDims (R C A B : Nat) (wf : ScatterDims.WF (shape2 R C) (shape1 2) (shape2 A B) [0, 1] [] [0, 1] 0) :
    ScatterDims (shape2 R C) (shape1 2) (shape2 A B) where
  updateWindowDims := [0, 1]
  insertedWindowDims := []
  scatterDimsToOperandDims := [0, 1]
  indexVectorDim := 0
  wf := wf

variable {R C A B : Nat} (wf : ScatterDims.WF (shape2 R C) (shape1 2) (shape2 A B) [0, 1] [] [0, 1] 0)

/-- Entry `(a, b)` of the rectangle lands at `(r, c)` exactly when the corner plus `(a, b)` is `(r, c)`. -/
theorem lands_block (idx : IVec (shape1 2) 32) (a : Fin A) (b : Fin B) (r : Fin R) (c : Fin C) :
    (blockDims R C A B wf).resultIdx? (ix2 a b) idx = some (ix2 r c)
      ↔ (idx (ix1 (0 : Fin 2))).toInt + (a.val : Int) = r.val ∧ (idx (ix1 (1 : Fin 2))).toInt + (b.val : Int) = c.val := by
  have hw0 : (blockDims R C A B wf).window (ix2 a b) 0 = a.val := rfl
  have hw1 : (blockDims R C A B wf).window (ix2 a b) 1 = b.val := rfl
  rw [resultIdx?_ix2, start_pair _ rfl rfl, start_pair _ rfl rfl, hw0, hw1]

/-- The scatter that sets a rectangle whose corner is `(i, j)`, read at `(r, c)`: the update inside the rectangle, the operand outside. -/
theorem scatter_block (x : (shape2 R C).Idx → α) (idx : IVec (shape1 2) 32) (u : (shape2 A B).Idx → α) (i j : Nat)
    (hi : (idx (ix1 (0 : Fin 2))).toInt = i) (hj : (idx (ix1 (1 : Fin 2))).toInt = j) (r : Fin R) (c : Fin C) :
    Host.scatter (blockDims R C A B wf) (fun _ b => b) x idx u (ix2 r c)
      = if h : (i ≤ r.val ∧ r.val < i + A) ∧ j ≤ c.val ∧ c.val < j + B then
          u (ix2 ⟨r.val - i, by omega⟩ ⟨c.val - j, by omega⟩) else x (ix2 r c) := by
  have lands : ∀ k : (shape2 A B).Idx, (blockDims R C A B wf).resultIdx? k idx = some (ix2 r c) →
      i + (k 0).val = r.val ∧ j + (k 1).val = c.val := fun k hk => by
    have q := (lands_block wf idx (k 0) (k 1) r c).1 ((congrArg (fun t => (blockDims R C A B wf).resultIdx? t idx) (eq_ix2 k).symm).trans hk)
    rw [hi, hj] at q
    omega
  by_cases h : (i ≤ r.val ∧ r.val < i + A) ∧ j ≤ c.val ∧ c.val < j + B
  · rw [dif_pos h]
    refine scatter_set_hit _ x idx u _ _ (fun k hk => ?_) (ix2 ⟨r.val - i, by omega⟩ ⟨c.val - j, by omega⟩)
      ((lands_block wf idx _ _ r c).2 ?_)
    · obtain ⟨q0, q1⟩ := lands k hk
      rw [eq_ix2 k]
      exact congrArg u (congrArg₂ ix2 (Fin.ext (by show (k 0).val = r.val - i; omega)) (Fin.ext (by show (k 1).val = c.val - j; omega)))
    · rw [hi, hj]
      dsimp only
      omega
  · rw [dif_neg h]
    refine scatter_set_miss _ x idx u _ fun k hk => h ?_
    obtain ⟨q0, q1⟩ := lands k hk
    have h0 : (k 0).val < A := (k 0).isLt
    have h1 : (k 1).val < B := (k 1).isLt
    omega

end Block

section Row

/-- The dimension numbers of `x.at[i, j : j + B].set(u)` over an `[R, C]` matrix, the corner being a pair of index words. -/
abbrev rowDims (R C B : Nat) (wf : ScatterDims.WF (shape2 R C) (shape1 2) (shape1 B) [0] [0] [0, 1] 0) :
    ScatterDims (shape2 R C) (shape1 2) (shape1 B) where
  updateWindowDims := [0]
  insertedWindowDims := [0]
  scatterDimsToOperandDims := [0, 1]
  indexVectorDim := 0
  wf := wf

variable {R C B : Nat} (wf : ScatterDims.WF (shape2 R C) (shape1 2) (shape1 B) [0] [0] [0, 1] 0)

/-- Entry `b` of the row part lands at `(r, c)` exactly when the row word is `r` and the column word plus `b` is `c`. -/
theorem lands_row (idx : IVec (shape1 2) 32) (b : Fin B) (r : Fin R) (c : Fin C) :
    (rowDims R C B wf).resultIdx? (ix1 b) idx = some (ix2 r c)
      ↔ (idx (ix1 (0 : Fin 2))).toInt = r.val ∧ (idx (ix1 (1 : Fin 2))).toInt + (b.val : Int) = c.val := by
  have hw0 : (rowDims R C B wf).window (ix1 b) 0 = 0 := rfl
  have hw1 : (rowDims R C B wf).window (ix1 b) 1 = b.val := rfl
  rw [resultIdx?_ix2, start_pair _ rfl rfl, start_pair _ rfl rfl, hw0, hw1]
  omega

/-- The scatter that sets part of row `i` from column `j` on, read at `(r, c)`: the update in that part, the operand elsewhere. -/
theorem scatter_row (x : (shape2 R C).Idx → α) (idx : IVec (shape1 2) 32) (u : (shape1 B).Idx → α) (i j : Nat)
    (hi : (idx (ix1 (0 : Fin 2))).toInt = i) (hj : (idx (ix1 (1 : Fin 2))).toInt = j) (r : Fin R) (c : Fin C) :
    Host.scatter (rowDims R C B wf) (fun _ b => b) x idx u (ix2 r c)
      = if h : r.val = i ∧ j ≤ c.val ∧ c.val < j + B then u (ix1 ⟨c.val - j, by omega⟩) else x (ix2 r c) := by
  have lands : ∀ k : (shape1 B).Idx, (rowDims R C B wf).resultIdx? k idx = some (ix2 r c) →
      i = r.val ∧ j + (k 0).val = c.val := fun k hk => by
    have q := (lands_row wf idx (k 0) r c).1 ((congrArg (fun t => (rowDims R C B wf).resultIdx? t idx) (eq_ix1 k).symm).trans hk)
    rw [hi, hj] at q
    omega
  by_cases h : r.val = i ∧ j ≤ c.val ∧ c.val < j + B
  · rw [dif_pos h]
    refine scatter_set_hit _ x idx u _ _ (fun k hk => ?_) (ix1 ⟨c.val - j, by omega⟩) ((lands_row wf idx _ r c).2 ?_)
    · obtain ⟨q0, q1⟩ := lands k hk
      rw [eq_ix1 k]
      exact congrArg u (congrArg ix1 (Fin.ext (by show (k 0).val = c.val - j; omega)))
    · rw [hi, hj]
      dsimp only
      omega
  · rw [dif_neg h]
    refine scatter_set_miss _ x idx u _ fun k hk => h ?_
    obtain ⟨q0, q1⟩ := lands k hk
    have h0 : (k 0).val < B := (k 0).isLt
    omega

end Row

section Column

/-- The scatter that sets column `k` of a matrix, one index word, read at `(w, e)`: the update in that column, the operand elsewhere. -/
theorem scatter_column {A N : Nat} (d : ScatterDims (shape2 A N) (shape1 1) (shape1 A)) (hiw : d.insertedWindowDims = [1])
    (hsd : d.scatterDimsToOperandDims = [1]) (x : (shape2 A N).Idx → α) (idx : IVec (shape1 1) 32) (u : (shape1 A).Idx → α)
    (k : Fin N) (hidx : (idx (ix1 0)).toInt = (k.val : Int)) (w : Fin A) (e : Fin N) :
    Host.scatter d (fun _ b => b) x idx u (ix2 w e) = if e = k then u (ix1 w) else x (ix2 w e) := by
  have lands : ∀ j : (shape1 A).Idx, d.resultIdx? j idx = some (ix2 w e) → j 0 = w ∧ e = k := fun j hj =>
    (lands_col d hiw hsd idx k hidx (j 0) w e).1 ((congrArg (fun t => d.resultIdx? t idx) (eq_ix1 j).symm).trans hj)
  split
  · next h =>
    exact scatter_set_hit d x idx u _ _ (fun j hj => by rw [eq_ix1 j, (lands j hj).1]; rfl) (ix1 w)
      ((lands_col d hiw hsd idx k hidx w w e).2 ⟨rfl, h⟩)
  · next h => exact scatter_set_miss d x idx u _ fun j hj => h (lands j hj).2

end Column

section Gather

/-- The dimension numbers of `jnp.take(x, ix, axis=0)` of a matrix `x : [N, B]` at an array of row numbers `ix : [R, C]`. -/
abbrev takeRowDims (N B R C : Nat)
    (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- That gather read at `(p, q, b)` where the row word is the row `n`: entry `(n, b)` of the matrix. -/
theorem gather_rows {N B R C : Nat}
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (p : Fin R) (q : Fin C) (b : Fin B) (n : Fin N)
    (hn : (idx (ix3 p q 0)).toInt = (n.val : Int)) :
    Host.gather (takeRowDims N B R C wf) x idx (ix3 p q b) = x (ix2 n b) := by
  unfold Host.gather
  congr 1
  funext a
  refine Fin.ext ?_
  show (takeRowDims N B R C wf).start (ix3 p q b) idx a + (takeRowDims N B R C wf).batchCoord (ix3 p q b) a
    + (takeRowDims N B R C wf).offCoord (ix3 p q b) a = _
  rw [GatherDims.batchCoord_eq_zero _ _ _ List.not_mem_nil, Nat.add_zero]
  rcases (match a with | ⟨0, _⟩ => Or.inl rfl | ⟨1, _⟩ => Or.inr rfl : a = 0 ∨ a = 1) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (takeRowDims N B R C wf).startIndexMap from List.mem_singleton.mpr rfl)]
    have hsi : (takeRowDims N B R C wf).siIdx (ix3 p q b) ⟨List.idxOf (0 : Fin 2) (takeRowDims N B R C wf).startIndexMap,
        List.idxOf_lt_length_iff.2 (List.mem_singleton.mpr rfl)⟩ = ix3 p q 0 := by
      funext c; refine Fin.ext ?_
      match c with
      | ⟨0, _⟩ => rfl
      | ⟨1, _⟩ => rfl
      | ⟨2, _⟩ => rfl
    rw [hsi, hn]
    show min ((n.val : Int)).toNat (N - 1) = n.val
    have := n.isLt
    omega
  · have h1 : (takeRowDims N B R C wf).start (ix3 p q b) idx 1 = 0 := by
      unfold GatherDims.start
      exact dif_neg fun h => absurd (List.mem_singleton.1 h) (by decide : (1 : Fin 2) ≠ 0)
    show (takeRowDims N B R C wf).start (ix3 p q b) idx 1 + _ = _
    rw [h1, Nat.zero_add]
    rfl

end Gather

end Cert.Ops
-- ==== Proof.Packed.lean ====
/-
  What the host packs for the kernel: a 96 × 128 matrix with the day rows, the hour rows, the minute rows, the three
  interval rows and the bias row each in their own block of rows and 32 columns, and zero elsewhere; and the scale
  and the shift of the normalization as rows.
-/
module

public import proofs.«01_k».proof.Proof.Table
public import proofs.«01_k».proof.Proof.Ops
public import Idealize.ShloMosaic.Lib.Tactic.ValueTie
public import Idealize.ShloMosaic.Lib.Pointwise.IndexBridge

@[expose] public section

noncomputable section

namespace Cert.KernelIdeal.Packed

open Cert.KernelIdeal Cert.KernelIdeal.Gen Idealize.ShloMosaic Idealize.ShloMosaic.TcCoe

variable (m : (ℓ : Loc nD τ sig) → Buf (Elt Ideal) ℓ) (c : Dev nD)

/-- The packed matrix of the day, hour, minute and interval tables and the bias. -/
def packed (d : Vec Ideal S7x32 .f32) (h : Vec Ideal S24x32 .f32) (n : Vec Ideal S60x32 .f32) (w : Vec Ideal S3x32 .f32)
    (b : Vec Ideal S32 .f32) (r : Fin 96) (k : Fin 128) : EReal :=
  if q : r.val = 94 ∧ 96 ≤ k.val ∧ k.val < 96 + 32 then b (ix1 ⟨k.val - 96, by omega⟩)
  else if q : (91 ≤ r.val ∧ r.val < 91 + 3) ∧ 96 ≤ k.val ∧ k.val < 96 + 32 then w (ix2 ⟨r.val - 91, by omega⟩ ⟨k.val - 96, by omega⟩)
  else if q : (31 ≤ r.val ∧ r.val < 31 + 60) ∧ 64 ≤ k.val ∧ k.val < 64 + 32 then n (ix2 ⟨r.val - 31, by omega⟩ ⟨k.val - 64, by omega⟩)
  else if q : (7 ≤ r.val ∧ r.val < 7 + 24) ∧ 32 ≤ k.val ∧ k.val < 32 + 32 then h (ix2 ⟨r.val - 7, by omega⟩ ⟨k.val - 32, by omega⟩)
  else if q : (0 ≤ r.val ∧ r.val < 0 + 7) ∧ 0 ≤ k.val ∧ k.val < 0 + 32 then d (ix2 ⟨r.val - 0, by omega⟩ ⟨k.val - 0, by omega⟩)
  else 0

/-- The first input array the region finds is the packed matrix of the arguments. -/
theorem packed_eq (r : Fin 96) (k : Fin 128) :
    (V m c main_v20 : Vec Ideal S96x128 .f32) (ix2 r k) = packed (m (c.tc.loc main_arg1)) (m (c.tc.loc main_arg2)) (m (c.tc.loc main_arg3))
      (m (c.tc.loc main_arg4)) (m (c.tc.loc main_arg5)) r k := by
  unfold_abbrev_sides
  after_results
  unfold scatter_S96x128_S2_S32_0_0_01_0 scatter_S96x128_S2_S3x32_01_n_01_0 scatter_S96x128_S2_S60x32_01_n_01_0
    scatter_S96x128_S2_S24x32_01_n_01_0 scatter_S96x128_S2_S7x32_01_n_01_0
  unfold packed
  simp only [ix2_eq_valueIdx, ix1_eq_valueIdx]
  have hz : broadcastInDim S96x128 ![] bcast_S_S96x128 (constant (F := Ideal) S_ .f32 0x00000000#32) (ValueIdx.ix2 r k) = (0 : EReal) := by
    pointwise
  rw [Ops.scatter_row _ _ _ _ 94 96 rfl rfl, Ops.scatter_block _ _ _ _ 91 96 rfl rfl, Ops.scatter_block _ _ _ _ 31 64 rfl rfl,
    Ops.scatter_block _ _ _ _ 7 32 rfl rfl, Ops.scatter_block _ _ _ _ 0 0 rfl rfl]
  rw [hz]

/-- The second input array is the scale as a row. -/
theorem scale_eq (k : Fin 128) : (V m c main_v21 : Vec Ideal S1x128 .f32) (ix2 0 k) = (m (c.tc.loc main_arg6) : Vec Ideal S128 .f32) (ix1 k) := by
  unfold_abbrev_sides
  after_results
  pointwise

/-- The third input array is the shift as a row. -/
theorem shift_eq (k : Fin 128) : (V m c main_v22 : Vec Ideal S1x128 .f32) (ix2 0 k) = (m (c.tc.loc main_arg7) : Vec Ideal S128 .f32) (ix1 k) := by
  unfold_abbrev_sides
  after_results
  pointwise

end Cert.KernelIdeal.Packed
-- ==== Proof.Row.lean ====
/-
  A row of the product of the selector and the packed matrix: its four blocks of 32 columns are the day row, the hour
  row, the minute row, and the interval projection with its bias.
-/
module

public import proofs.«01_k».proof.Proof.Selector
public import proofs.«01_k».proof.Proof.Packed

@[expose] public section

noncomputable section

namespace Cert.KernelIdeal.Row

open Cert.KernelIdeal Cert.KernelIdeal.Gen Cert.KernelIdeal.Selector Cert.KernelIdeal.Packed Idealize.ShloMosaic Idealize.ShloMosaic.TcCoe

/-- A position's interval in one of the three units: zero at the first position, else the unit's constant. -/
def interval (p : Fin 200) (a : Fin 3) : EReal := if p.val = 0 then 0 else scaleOf ⟨91 + a.val, by omega⟩

/-- The vector of 128 entries of position `p` before the normalization: the day row, the hour row, the minute row, and the interval projection. -/
def row (d : Vec Ideal S7x32 .f32) (h : Vec Ideal S24x32 .f32) (n : Vec Ideal S60x32 .f32) (w : Vec Ideal S3x32 .f32)
    (b : Vec Ideal S32 .f32) (p : Fin 200) (k : Fin 128) : EReal :=
  if hk : k.val < 32 then d (ix2 ⟨p.val % 7, by omega⟩ ⟨k.val, hk⟩)
  else if h2 : k.val < 64 then h (ix2 ⟨p.val % 24, by omega⟩ ⟨k.val - 32, by omega⟩)
  else if h3 : k.val < 96 then n (ix2 ⟨p.val % 60, by omega⟩ ⟨k.val - 64, by omega⟩)
  else (∑ a, interval p a * w (ix2 a ⟨k.val - 96, by omega⟩)) + b (ix1 ⟨k.val - 96, by omega⟩)

/-- A row of the product of the selector and the packed matrix is `row`. -/
theorem sum_eq (d : Vec Ideal S7x32 .f32) (h : Vec Ideal S24x32 .f32) (n : Vec Ideal S60x32 .f32) (w : Vec Ideal S3x32 .f32)
    (b : Vec Ideal S32 .f32) (p : Fin 200) (k : Fin 128) :
    (∑ r, selector p r * packed d h n w b r k) = row d h n w b p k := by
  have hp := p.isLt
  have hk := k.isLt
  unfold row
  split_ifs with h1 h2 h3
  · rw [Finset.sum_eq_single (⟨p.val % 7, by omega⟩ : Fin 96)]
    · simp only [selector, packed]
      rw [if_pos (show p.val % 7 < 7 by omega), if_pos trivial, one_mul]
      repeat rw [dif_neg (by omega)]
      rw [dif_pos (by omega)]
      rfl
    · intro r _ hne
      have hr := r.isLt
      have hne : r.val ≠ p.val % 7 := fun e => hne (Fin.ext e)
      by_cases h7 : r.val < 7
      · rw [selector, if_pos h7, if_neg hne, zero_mul]
      · unfold packed
        repeat rw [dif_neg (by omega)]
        rw [mul_zero]
    · exact fun e => absurd (Finset.mem_univ _) e
  · rw [Finset.sum_eq_single (⟨p.val % 24 + 7, by omega⟩ : Fin 96)]
    · simp only [selector, packed]
      rw [if_neg (show ¬ p.val % 24 + 7 < 7 by omega), if_pos (show p.val % 24 + 7 < 31 by omega), if_pos trivial, one_mul]
      repeat rw [dif_neg (by omega)]
      rw [dif_pos (by omega)]
      rfl
    · intro r _ hne
      have hr := r.isLt
      have hne : r.val ≠ p.val % 24 + 7 := fun e => hne (Fin.ext e)
      by_cases h7 : 7 ≤ r.val ∧ r.val < 31
      · rw [selector, if_neg (by omega), if_pos h7.2, if_neg hne, zero_mul]
      · unfold packed
        repeat rw [dif_neg (by omega)]
        rw [mul_zero]
    · exact fun e => absurd (Finset.mem_univ _) e
  · rw [Finset.sum_eq_single (⟨p.val % 60 + 31, by omega⟩ : Fin 96)]
    · simp only [selector, packed]
      rw [if_neg (show ¬ p.val % 60 + 31 < 7 by omega), if_neg (show ¬ p.val % 60 + 31 < 31 by omega),
        if_pos (show p.val % 60 + 31 < 91 by omega), if_pos trivial, one_mul]
      repeat rw [dif_neg (by omega)]
      rw [dif_pos (by omega)]
      rfl
    · intro r _ hne
      have hr := r.isLt
      have hne : r.val ≠ p.val % 60 + 31 := fun e => hne (Fin.ext e)
      by_cases h7 : 31 ≤ r.val ∧ r.val < 91
      · rw [selector, if_neg (by omega), if_neg (by omega), if_pos h7.2, if_neg hne, zero_mul]
      · unfold packed
        repeat rw [dif_neg (by omega)]
        rw [mul_zero]
    · exact fun e => absurd (Finset.mem_univ _) e
  · rw [← Finset.sum_subset (Finset.subset_univ ({91, 92, 93, 94} : Finset (Fin 96)))]
    · rw [Finset.sum_insert (by decide), Finset.sum_insert (by decide), Finset.sum_insert (by decide), Finset.sum_singleton,
        Fin.sum_univ_three]
      have unit : ∀ (a : Fin 3) (r : Fin 96), r.val = 91 + a.val → selector p r * packed d h n w b r k
          = interval p a * w (ix2 a ⟨k.val - 96, by omega⟩) := by
        intro a r e
        obtain rfl : r = ⟨91 + a.val, Nat.add_lt_add_left (lt_trans a.isLt (show 3 < 5 by decide)) 91⟩ := Fin.ext e
        unfold selector packed interval
        rw [if_neg (by omega), if_neg (by omega), if_neg (by omega), if_pos (by omega), dif_neg (by omega), dif_pos (by omega)]
        congr 3
        exact Fin.ext (by simp)
      have bias : selector p 94 * packed d h n w b 94 k = b (ix1 ⟨k.val - 96, by omega⟩) := by
        unfold selector packed
        rw [if_neg (by decide), if_neg (by decide), if_neg (by decide), if_neg (by decide), if_pos (show (94 : Fin 96).val = 94 from rfl), one_mul,
          dif_pos ⟨rfl, by omega⟩]
      rw [unit 0 91 rfl, unit 1 92 rfl, unit 2 93 rfl, bias]
      simp only [add_assoc]
    · intro r _ hne
      have hr := r.isLt
      by_cases h7 : r.val < 91
      · unfold packed
        repeat rw [dif_neg (by omega)]
        rw [mul_zero]
      · have h91 : r.val ≠ 91 ∧ r.val ≠ 92 ∧ r.val ≠ 93 ∧ r.val ≠ 94 := by
          refine ⟨fun e => hne ?_, fun e => hne ?_, fun e => hne ?_, fun e => hne ?_⟩ <;>
          · rw [Finset.mem_insert, Finset.mem_insert, Finset.mem_insert, Finset.mem_singleton]
            simp only [Fin.ext_iff]
            simp [e]
        rw [selector, if_neg (by omega), if_neg (by omega), if_neg (by omega), if_neg (by omega), if_neg (by omega), zero_mul]

end Cert.KernelIdeal.Row
-- ==== Proof.Result.lean ====
/-
  What the kernel's result holds: at batch row `b`, position `p` and column `k`, the normalized row of position `p`,
  the same for every batch row (`result_apply`).
-/
module

public import proofs.«01_k».proof.Proof.Row
public import proofs.«01_k».proof.Proof.Gen.KernelIdeal.Value

@[expose] public section

noncomputable section

namespace Cert.KernelIdeal.Result

open Cert.KernelIdeal Cert.KernelIdeal.Gen Cert.KernelIdeal.Value Cert.KernelIdeal.Table Cert.KernelIdeal.Selector Cert.KernelIdeal.Packed
  Cert.KernelIdeal.Row Idealize.ShloMosaic Idealize.ShloMosaic.TcCoe

variable (m : (ℓ : Loc nD τ sig) → Buf (Elt Ideal) ℓ) (c : Dev nD)

/-- The table of the run at position `p` and column `k` is the normalized row of `p`. -/
theorem tableAt_apply (p : Fin 200) (k : Fin 128) :
    tableAt m c (ix2 p k) = Norm.byRsqrt (row (m (c.tc.loc main_arg1)) (m (c.tc.loc main_arg2)) (m (c.tc.loc main_arg3))
      (m (c.tc.loc main_arg4)) (m (c.tc.loc main_arg5)) p) k ((m (c.tc.loc main_arg6) : Vec Ideal S128 .f32) (ix1 k))
      ((m (c.tc.loc main_arg7) : Vec Ideal S128 .f32) (ix1 k)) := by
  unfold tableAt
  rw [table_apply, scale_eq, shift_eq]
  congr 1
  funext l
  rw [← sum_eq]
  refine Finset.sum_congr rfl fun r _ => ?_
  rw [built_eq, packed_eq]

/-- The block a point writes is the table, repeated for every batch row of the block. -/
theorem block_apply (t : Vec Ideal S200x128 .f32) (i : S128x200x128.Idx) : (k0_pay2 (F := Ideal) t) i = t (ix2 (i 1) (i 2)) := by
  unfold k0_pay2
  pointwise

/-- The kernel's result at index `i` is the normalized row of position `i 1` at column `i 2`. -/
theorem result_apply (i : S4096x200x128.Idx) :
    G3 m c i = Norm.byRsqrt (row (m (c.tc.loc main_arg1)) (m (c.tc.loc main_arg2)) (m (c.tc.loc main_arg3))
      (m (c.tc.loc main_arg4)) (m (c.tc.loc main_arg5)) (i 1)) (i 2) ((m (c.tc.loc main_arg6) : Vec Ideal S128 .f32) (ix1 (i 2)))
      ((m (c.tc.loc main_arg7) : Vec Ideal S128 .f32) (ix1 (i 2))) := by
  have h0 : (i 0).val < 4096 := (i 0).isLt
  have h1 : (i 1).val < 200 := (i 1).isLt
  have h2 : (i 2).val < 128 := (i 2).isLt
  have hp : pt3Of i < cfg0.N := by
    rw [show cfg0.N = 32 from N_0]
    show 1 * ((i 0).val / 128 - 0) + 1 * ((i 1).val / 200 - 0) + 1 * ((i 2).val / 128 - 0) < 32
    omega
  have e1 : loc3Of i 1 = i 1 := Fin.ext (Nat.mod_eq_of_lt h1)
  have e2 : loc3Of i 2 = i 2 := Fin.ext (Nat.mod_eq_of_lt h2)
  unfold G3
  rw [dif_pos hp, ← outsAt0_sweep m c _ hp, outsAt_eq]
  dsimp only
  rw [block_apply, e1, e2]
  exact tableAt_apply m c (i 1) (i 2)

end Cert.KernelIdeal.Result
-- ==== Proof.Reference.lean ====
/-
  What the reference computes: its row numbers are the positions modulo 7, 24 and 60, its interval column is one
  everywhere but at the first position, so the vector of 128 entries it normalizes at position `p` is `row`
  (`joined_eq`), and its result is that row normalized (`result_apply`).
-/
module

public import proofs.«01_k».proof.Proof.Row
public import proofs.«01_k».proof.Proof.Gen.ReferenceIdeal.Run

@[expose] public section

noncomputable section

namespace Cert.ReferenceIdeal.Rows

open Cert.ReferenceIdeal Cert.ReferenceIdeal.Gen Cert.ReferenceIdeal.Value Idealize.ShloMosaic Idealize.ShloMosaic.TcCoe Idealize.ShloMosaic.StableHlo
open Cert.KernelIdeal.Row (row interval)
open Cert.KernelIdeal.Selector (scaleOf select_bit)

variable (V0 : Valuation τ sig (Elt Ideal))

/-- The day's row number is the position modulo 7. -/
theorem day_index (i : S4096x200x1.Idx) : (res_main_call3_v5 V0 : IVec S4096x200x1 32) i = BitVec.ofNat 32 ((i 1).val % 7) := by
  unfold res_main_call3_v5 res_main_v3 res_main_call0_v4 res_main_call0_v2 res_main_call0_v0 res_main_v2
  pointwise
  generalize (i 1 : Fin 200) = p
  revert p
  decide +kernel

/-- The hour's row number is the position modulo 24. -/
theorem hour_index (i : S4096x200x1.Idx) : (res_main_call4_v5 V0 : IVec S4096x200x1 32) i = BitVec.ofNat 32 ((i 1).val % 24) := by
  unfold res_main_call4_v5 res_main_v4 res_main_call1_v4 res_main_call1_v2 res_main_call1_v0 res_main_v2
  pointwise
  generalize (i 1 : Fin 200) = p
  revert p
  decide +kernel

/-- The minute's row number is the position modulo 60. -/
theorem minute_index (i : S4096x200x1.Idx) : (res_main_call5_v5 V0 : IVec S4096x200x1 32) i = BitVec.ofNat 32 ((i 1).val % 60) := by
  unfold res_main_call5_v5 res_main_v5 res_main_call2_v4 res_main_call2_v2 res_main_call2_v0 res_main_v2
  pointwise
  generalize (i 1 : Fin 200) = p
  revert p
  decide +kernel

/-- A conjunction of one-bit words that are all 1, over any finite set, is 1. -/
theorem fold_one {ι : Type} (s : Finset ι) (f : ι → BitVec 1) (h : ∀ i, f i = 1#1) : Finset.fold IntOp.andi 1#1 f s = 1#1 := by
  classical
  induction s using Finset.induction_on with
  | empty => rfl
  | insert a s ha ih => rw [Finset.fold_insert ha, ih, h]; rfl

/-- Reading rows of a table of `N` rows at row numbers that are the positions modulo `N`, with another value where a row
    number is not in bounds: every row number is in bounds, and the row read at position `p` is row `p % N`. -/
theorem take_row {N : Nat} (hN : 0 < N) (wf : GatherDims.WF ⟨2, ![N, 32]⟩ ⟨3, ![4096, 200, 1]⟩ ⟨3, ![4096, 200, 32]⟩ [2] [0] [] [0] [] 2 ![1, 32])
    (x : (⟨2, ![N, 32]⟩ : Shape).Idx → EReal) (idx : IVec ⟨3, ![4096, 200, 1]⟩ 32) (top : BitVec 32)
    (hidx : ∀ i, idx i = BitVec.ofNat 32 ((i 1).val % N))
    (hin : ∀ n : Fin N, IntOp.andi (IntOp.cmpi .sge (BitVec.ofNat 32 n.val) 0#32) (IntOp.cmpi .sle (BitVec.ofNat 32 n.val) top) = 1#1
      ∧ (BitVec.ofNat 32 n.val).toInt = (n.val : Int))
    (s : Finset (⟨3, ![4096, 200, 1]⟩ : Shape).Idx) (b : Fin 4096) (p : Fin 200) (k : Fin 32) (y : EReal) :
    Scalar.select (Finset.fold IntOp.andi 1#1 (fun i => IntOp.andi (IntOp.cmpi .sge (idx i) 0#32) (IntOp.cmpi .sle (idx i) top)) s)
      (Host.gather (Ops.takeRowDims N 32 4096 200 wf) x idx (ix3 b p k)) y = x (ix2 ⟨p.val % N, Nat.mod_lt _ hN⟩ k) := by
  rw [fold_one s _ fun i => by rw [hidx]; exact (hin ⟨(i 1).val % N, Nat.mod_lt _ hN⟩).1, select_bit 1#1 True (by simp), if_pos trivial,
    ix3_eq_valueIdx, ix2_eq_valueIdx]
  refine Ops.gather_rows wf x idx b p k ⟨p.val % N, Nat.mod_lt _ hN⟩ ?_
  rw [hidx]
  exact (hin ⟨p.val % N, Nat.mod_lt _ hN⟩).2

/-- The reference's constants, one for each unit. -/
theorem unit_eq (a : Fin 3) : Ideal.ofBits .f32 (lit0 (S3.rowMajor (ix1 a))) = scaleOf ⟨91 + a.val, by omega⟩ := by
  have words : ∀ a : Fin 3, lit0 (S3.rowMajor (ix1 a)) = if a.val = 0 then 0x3D888889#32 else if a.val = 1 then 0x3C888889#32 else 0x3BDA740E#32 := by
    decide +kernel
  rw [words]
  unfold scaleOf
  match a with
  | ⟨0, _⟩ => exact (if_pos rfl).symm
  | ⟨1, _⟩ => rw [if_neg (by simp), if_pos rfl, if_neg (by simp)]; exact (if_pos rfl).symm
  | ⟨2, _⟩ => rw [if_neg (by simp), if_neg (by simp), if_neg (by simp), if_neg (by simp)]; exact (if_pos rfl).symm

/-- The interval column times a unit's constant: zero at the first position, the constant elsewhere. -/
theorem interval_eq (b : Fin 4096) (p : Fin 200) (a : Fin 3) :
    (Host.scatter scatter_S4096x200_S1_S4096_0_1_1_0 (fun _ v => v)
        (broadcastInDim S4096x200 ![] bcast_S_S4096x200 (constant S_ .f32 0x3F800000#32) : FVec Ideal S4096x200 .f32)
        (broadcastInDim S1 ![] bcast_S_S1 (constantI S_ 32 0#32)) (broadcastInDim S4096 ![] bcast_S_S4096 (constant S_ .f32 0x00000000#32) : FVec Ideal S4096 .f32)
        (ix2 b p) : EReal) * Ideal.ofBits .f32 (lit0 (S3.rowMajor (ix1 a))) = interval p a := by
  rw [ix2_eq_valueIdx, Ops.scatter_column _ rfl rfl _ _ _ 0 (by pointwise; rfl)]
  pointwise
  rw [unit_eq]
  unfold interval
  by_cases h : p.val = 0
  · rw [if_pos h, if_pos (Fin.ext h), zero_mul]
  · rw [if_neg h, if_neg fun e => h (congrArg Fin.val e), one_mul]

/-- The vector of 128 entries the reference normalizes at batch row `b` and position `p` is `row`. -/
theorem joined_eq (b : Fin 4096) (p : Fin 200) (k : Fin 128) :
    (res_main_v22 V0 : FVec Ideal S4096x200x128 .f32) (ix3 b p k)
      = row (V0 (Proc.devRef .tc main_arg1)) (V0 (Proc.devRef .tc main_arg2)) (V0 (Proc.devRef .tc main_arg3))
          (V0 (Proc.devRef .tc main_arg4)) (V0 (Proc.devRef .tc main_arg5)) p k := by
  have hk := k.isLt
  unfold res_main_v22 row
  pointwise
  by_cases h1 : k.val < 32
  · rw [dif_pos h1, dif_pos h1]
    exact take_row (by decide) _ _ _ 6#32 (day_index V0) (by decide) _ b p _ _
  rw [dif_neg h1, dif_neg h1]
  by_cases h2 : k.val < 64
  · rw [dif_pos (show k.val - 32 < 32 by omega), dif_pos h2]
    exact take_row (by decide) _ _ _ 23#32 (hour_index V0) (by decide) _ b p _ _
  rw [dif_neg (show ¬ k.val - 32 < 32 by omega), dif_neg h2]
  by_cases h3 : k.val < 96
  · rw [dif_pos (show k.val - 32 - 32 < 32 by omega), dif_pos h3]
    simp only [Nat.sub_sub, Nat.reduceAdd]
    exact take_row (by decide) _ _ _ 59#32 (minute_index V0) (by decide +kernel) _ b p _ _
  rw [dif_neg (show ¬ k.val - 32 - 32 < 32 by omega), dif_neg h3]
  simp only [Nat.sub_sub, Nat.reduceAdd]
  exact congrArg (· + _) (Finset.sum_congr rfl fun a _ => congrArg (· * _) (interval_eq b p a))

/-- The divisor of the reference's variance: 128 less the number 0, the number 128. -/
theorem count_eq : (res_main_call6_v8 V0 : FVec Ideal S_ .f32) ix0 = Ideal.ofBits .f32 0x43000000#32 := by
  unfold res_main_call6_v8
  pointwise
  rw [show (FloatOps.sitofp .f32 (0#32) : Ideal .f32) = (0 : EReal) by simp [FloatOps.sitofp]]
  exact sub_zero (Ideal.ofBits .f32 0x43000000#32 : EReal)

/-- The reference's result as its run leaves it. -/
def result : FVec Ideal S4096x200x128 .f32 :=
  addf (mulf (Host.divf (subf (res_main_v22 V0) (broadcastInDim S4096x200x128 ![0, 1, 2] bcast_S4096x200x1_S4096x200x128_0_1_2 (Host.divf (broadcastInDim S4096x200x1 ![0, 1] bcast_S4096x200_S4096x200x1_0_1 (Host.reduceAdd (res_main_v22 V0) (constant S_ .f32 0x00000000#32) reducesTo_S4096x200x128_S4096x200_d2 h_S_)) (broadcastInDim S4096x200x1 ![] bcast_S_S4096x200x1 (constant S_ .f32 0x43000000#32))))) (broadcastInDim S4096x200x128 ![0, 1, 2] bcast_S4096x200x1_S4096x200x128_0_1_2 (Host.sqrt (addf (select (broadcastInDim S4096x200x1 ![] bcast_S_S4096x200x1 (cmpf .ogt (res_main_call6_v8 V0) (constant S_ .f32 0x00000000#32))) (Host.divf (broadcastInDim S4096x200x1 ![0, 1] bcast_S4096x200_S4096x200x1_0_1 (Host.reduceAdd (mulf (res_main_call6_v5 V0) (res_main_call6_v5 V0)) (constant S_ .f32 0x00000000#32) reducesTo_S4096x200x128_S4096x200_d2 h_S_)) (broadcastInDim S4096x200x1 ![] bcast_S_S4096x200x1 (res_main_call6_v8 V0))) (broadcastInDim S4096x200x1 ![] bcast_S_S4096x200x1 (id (constant S_ .f32 0x7FC00000#32)))) (broadcastInDim S4096x200x1 ![] bcast_S_S4096x200x1 (constant S_ .f32 0x3727C5AC#32)))))) (broadcastInDim S4096x200x128 ![0, 1, 2] bcast_S1x1x128_S4096x200x128_0_1_2 (broadcastInDim S1x1x128 ![2] bcast_S128_S1x1x128_2 (V0 (Proc.devRef .tc main_arg6))))) (broadcastInDim S4096x200x128 ![0, 1, 2] bcast_S1x1x128_S4096x200x128_0_1_2 (broadcastInDim S1x1x128 ![2] bcast_S128_S1x1x128_2 (V0 (Proc.devRef .tc main_arg7))))

/-- The reference's result at batch row `b`, position `p` and column `k` is the normalized row of `p`. -/
theorem result_at (b : Fin 4096) (p : Fin 200) (k : Fin 128) :
    result V0 (ix3 b p k)
      = Norm.bySqrt (row (V0 (Proc.devRef .tc main_arg1)) (V0 (Proc.devRef .tc main_arg2)) (V0 (Proc.devRef .tc main_arg3))
          (V0 (Proc.devRef .tc main_arg4)) (V0 (Proc.devRef .tc main_arg5)) p) k
          ((V0 (Proc.devRef .tc main_arg6) : FVec Ideal S128 .f32) (ix1 k)) ((V0 (Proc.devRef .tc main_arg7) : FVec Ideal S128 .f32) (ix1 k)) := by
  have hpos : (0 : EReal) < (res_main_call6_v8 V0 : FVec Ideal S_ .f32) ix0 := by
    rw [count_eq, Norm.divisor]
    exact_mod_cast (by norm_num : (0 : ℝ) < 128)
  unfold result res_main_call6_v5
  pointwise
  rw [if_pos hpos, count_eq]
  simp only [joined_eq]
  rfl

/-- The reference's result at index `i` is the normalized row of position `i 1` at column `i 2`. -/
theorem result_apply (i : S4096x200x128.Idx) :
    result V0 i
      = Norm.bySqrt (row (V0 (Proc.devRef .tc main_arg1)) (V0 (Proc.devRef .tc main_arg2)) (V0 (Proc.devRef .tc main_arg3))
          (V0 (Proc.devRef .tc main_arg4)) (V0 (Proc.devRef .tc main_arg5)) (i 1)) (i 2)
          ((V0 (Proc.devRef .tc main_arg6) : FVec Ideal S128 .f32) (ix1 (i 2))) ((V0 (Proc.devRef .tc main_arg7) : FVec Ideal S128 .f32) (ix1 (i 2))) :=
  (congrArg _ (eq_ix3 i)).trans (result_at V0 (i 0) (i 1) (i 2))

end Cert.ReferenceIdeal.Rows
-- ==== Proof.lean ====
/-
  The five claims. The two frame claims of the kernel are its run; the reference's is its run, its semaphore counters
  zero because it declares none; the rewriting of the kernel into its ideal form changes no operation. The value claim
  puts the two results side by side: each is, at an index, the row of that index's position normalized — the kernel by
  the reciprocal square root, the reference by division by the square root — and those two are equal.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Result
public import proofs.«01_k».proof.Proof.Reference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem
open Cert.KernelIdeal (S7x32 S24x32 S60x32 S3x32 S32 S128)
open Cert.KernelIdeal.Row (row)

/-- The reference runs, leaves its arguments unchanged and its semaphores at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the row of a position normalized by division is the row of that position normalized by the reciprocal square root. -/
theorem normalized_eq {d d' : Vec Ideal S7x32 .f32} {h h' : Vec Ideal S24x32 .f32} {n n' : Vec Ideal S60x32 .f32} {w w' : Vec Ideal S3x32 .f32}
    {b b' : Vec Ideal S32 .f32} {g g' s s' : Vec Ideal S128 .f32} (e1 : d' = d) (e2 : h' = h) (e3 : n' = n) (e4 : w' = w) (e5 : b' = b)
    (e6 : g' = g) (e7 : s' = s) (p : Fin 200) (k : Fin 128) :
    Norm.bySqrt (row d' h' n' w' b' p) k (g' (ix1 k)) (s' (ix1 k)) = Norm.byRsqrt (row d h n w b p) k (g (ix1 k)) (s (ix1 k)) := by
  subst e1 e2 e3 e4 e5 e6 e7
  exact (Norm.byRsqrt_eq _ _ _ _).symm

/-- From memories that agree on the arguments, the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨_, a1, a2, a3, a4, a5, a6, a7⟩ := hagree c
  refine (h c).1.trans (funext fun i => ?_)
  exact ((Cert.ReferenceIdeal.Rows.result_apply (StableHlo.launchContents m' c) i).trans
    (normalized_eq a1 a2 a3 a4 a5 a6 a7 (i 1) (i 2))).trans (Cert.KernelIdeal.Result.result_apply m c i).symm

/-- Everything claimed holds. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
